-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_no_ties [hKernelIdeal : Cert.KernelIdeal.Facts] [hReferenceIdeal : Cert.ReferenceIdeal.Facts] [hOn_no_ties : Cert.On_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨5, ![1, 16, 8, 64, 64]⟩ : Shape).Idx, (Cert.On_no_ties.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨5, ![1, 16, 8, 64, 64]⟩ : Shape).Idx, (Cert.On_no_ties.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v24) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_no_ties : Cert.On_no_ties.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_no_ties (hKernelIdeal := hKernelIdeal) (hReferenceIdeal := hReferenceIdeal) (hOn_no_ties := hOn_no_ties)
-- ==== On_no_ties.lean ====
abbrev S1x16x8x64x64 : Shape := ⟨5, ![1, 16, 8, 64, 64]⟩
abbrev S8x1x16x64x64 : Shape := ⟨5, ![8, 1, 16, 64, 64]⟩
abbrev S8x16x4096 : Shape := ⟨3, ![8, 16, 4096]⟩
abbrev S8x4096x4096 : Shape := ⟨3, ![8, 4096, 4096]⟩
abbrev S8x4096x6 : Shape := ⟨3, ![8, 4096, 6]⟩
abbrev S8x4096x5 : Shape := ⟨3, ![8, 4096, 5]⟩
abbrev S_ : Shape := ⟨0, ![]⟩
abbrev S8x4096 : Shape := ⟨2, ![8, 4096]⟩
abbrev S8x1x4096 : Shape := ⟨3, ![8, 1, 4096]⟩

class Facts : Prop where
  transposes_S1x16x8x64x64_S8x1x16x64x64_2_0_1_3_4 : S1x16x8x64x64.Transposes [2, 0, 1, 3, 4] S8x1x16x64x64
  shapeCasts_S8x1x16x64x64_S8x16x4096 : S8x1x16x64x64.ShapeCasts S8x16x4096
  sliceFits_S8x4096x4096_S8x4096x6 : S8x4096x4096.Slices (fun _ => 0) S8x4096x6
  slices_S8x4096x6_S8x4096x5_0_0_0 : S8x4096x6.Slices ![0, 0, 0] S8x4096x5
  slices_S8x4096x6_S8x4096x5_0_0_1 : S8x4096x6.Slices ![0, 0, 1] S8x4096x5
  reducesTo_S8x4096x5_S8x4096_d2 : S8x4096x5.ReducesTo [2] S8x4096
  h_S_ : 0 < S_.numel
  bcast_S8x4096_S8x1x4096_0_2 : S8x4096.BroadcastsInDim S8x1x4096 (![0, 2] : Fin 2 → Fin S8x1x4096.rank)
  bcast_S8x1x4096_S8x16x4096_0_1_2 : S8x1x4096.BroadcastsInDim S8x16x4096 (![0, 1, 2] : Fin 3 → Fin S8x16x4096.rank)
  shapeCasts_S8x16x4096_S1x16x8x64x64 : S8x16x4096.ShapeCasts S1x16x8x64x64
  dot_S8x16x4096_S8x16x4096_S8x4096x4096_1_1_2_2_0_0_wf : DotDims.WF S8x16x4096 S8x16x4096 S8x4096x4096 [1] [1] [2] [2] [0] [0]

variable [Facts]

def dot_S8x16x4096_S8x16x4096_S8x4096x4096_1_1_2_2_0_0 : DotDims S8x16x4096 S8x16x4096 S8x4096x4096 where
  lhsContracting := [1]
  rhsContracting := [1]
  lhsNonContracting := [2]
  rhsNonContracting := [2]
  lhsBatch := [0]
  rhsBatch := [0]
  wf := dot_S8x16x4096_S8x16x4096_S8x4096x4096_1_1_2_2_0_0_wf
def fn {F : FTy → Type} [FloatOps F] (main_arg0 : FVec F S1x16x8x64x64 .f32) : IVec S1x16x8x64x64 1 :=
  let main_v0 : FVec F S8x1x16x64x64 .f32 := (transpose S8x1x16x64x64 [2, 0, 1, 3, 4] · transposes_S1x16x8x64x64_S8x1x16x64x64_2_0_1_3_4) main_arg0
  let main_v1 : FVec F S8x16x4096 .f32 := shapeCast S8x16x4096 main_v0 shapeCasts_S8x1x16x64x64_S8x16x4096
  let main_v2 : FVec F S8x4096x4096 .f32 := (fun l r => Host.dotGeneral dot_S8x16x4096_S8x16x4096_S8x4096x4096_1_1_2_2_0_0 none l r) main_v1 main_v1
  let main_values : FVec F S8x4096x6 .f32 := (fun x => (Host.topK S8x4096x6 2 (FloatOps.cmpfTotal .gt) x sliceFits_S8x4096x4096_S8x4096x6).1) main_v2
  let main_indices : IVec S8x4096x6 32 := (fun x => (Host.topK S8x4096x6 2 (FloatOps.cmpfTotal .gt) x sliceFits_S8x4096x4096_S8x4096x6).2) main_v2
  let main_v3 : FVec F S8x4096x5 .f32 := (extractStridedSlice S8x4096x5 ![0, 0, 0] · slices_S8x4096x6_S8x4096x5_0_0_0) main_values
  let main_v4 : FVec F S8x4096x5 .f32 := (extractStridedSlice S8x4096x5 ![0, 0, 1] · slices_S8x4096x6_S8x4096x5_0_0_1) main_values
  let main_v5 : IVec S8x4096x5 1 := cmpf .ogt main_v3 main_v4
  let main_c : IVec S_ 1 := constantI S_ 1 1#1
  let main_v6 : IVec S8x4096 1 := (fun x v => Host.reduce IntOp.andi x v reducesTo_S8x4096x5_S8x4096_d2 h_S_) main_v5 main_c
  let main_v7 : IVec S8x1x4096 1 := broadcastInDim S8x1x4096 ![0, 2] bcast_S8x4096_S8x1x4096_0_2 main_v6
  let main_v8 : IVec S8x16x4096 1 := broadcastInDim S8x16x4096 ![0, 1, 2] bcast_S8x1x4096_S8x16x4096_0_1_2 main_v7
  let main_v9 : IVec S1x16x8x64x64 1 := shapeCast S1x16x8x64x64 main_v8 shapeCasts_S8x16x4096_S1x16x8x64x64
  main_v9
-- ==== Kernel.lean ====
abbrev S1x16x8x64x64 : Shape := ⟨5, ![1, 16, 8, 64, 64]⟩
abbrev S16x32768 : Shape := ⟨2, ![16, 32768]⟩
abbrev S8x16x4096 : Shape := ⟨3, ![8, 16, 4096]⟩
abbrev S16x4096 : Shape := ⟨2, ![16, 4096]⟩
abbrev S1x16x1024 : Shape := ⟨3, ![1, 16, 1024]⟩
abbrev S1024x4096 : Shape := ⟨2, ![1024, 4096]⟩
abbrev S1024x1 : Shape := ⟨2, ![1024, 1]⟩
abbrev S16x1024 : Shape := ⟨2, ![16, 1024]⟩
abbrev S1024 : Shape := ⟨1, ![1024]⟩
abbrev S1x4096 : Shape := ⟨2, ![1, 4096]⟩
abbrev S1x1024 : Shape := ⟨2, ![1, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1x16x8x64x64, .f32⟩
  | .hbm, ⟨1, _⟩ => ⟨S16x32768, .f32⟩
  | .hbm, ⟨2, _⟩ => ⟨S8x16x4096, .f32⟩
  | .hbm, ⟨3, _⟩ => ⟨S1x16x8x64x64, .f32⟩
  | .local _ .vmem, ⟨0, _⟩ => ⟨S16x4096, .f32⟩
  | .local _ .vmem, ⟨1, _⟩ => ⟨S16x4096, .f32⟩
  | .local _ .vmem, ⟨2, _⟩ => ⟨S1x16x1024, .f32⟩
  | .local _ .vmem, ⟨3, _⟩ => ⟨S1x16x1024, .f32⟩
  | .local _ .vmem, ⟨4, _⟩ => ⟨S1024x4096, .f32⟩
  | _, _ => ⟨S1x16x8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let c0_2 : Index := 0#32
  let arg0 : BitVec 32 := BitVec.ofNat 32 (i 0).val
  let c1024_i32 : BitVec 32 := 1024#32
  let v0 : BitVec 32 := Scalar.muli arg0 c1024_i32
  let v6 : Index := Scalar.indexCast v0
  ![0, v6.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S1x16x8x64x64 : Shape := ⟨5, ![1, 16, 8, 64, 64]⟩
abbrev S8x1x16x64x64 : Shape := ⟨5, ![8, 1, 16, 64, 64]⟩
abbrev S8x16x4096 : Shape := ⟨3, ![8, 16, 4096]⟩
abbrev S8x4096x4096 : Shape := ⟨3, ![8, 4096, 4096]⟩
abbrev S8x4096x5 : Shape := ⟨3, ![8, 4096, 5]⟩
abbrev S8x16x4096x1 : Shape := ⟨4, ![8, 16, 4096, 1]⟩
abbrev S8x1x4096x5 : Shape := ⟨4, ![8, 1, 4096, 5]⟩
abbrev S_ : Shape := ⟨0, ![]⟩
abbrev S8x4096x5x1 : Shape := ⟨4, ![8, 4096, 5, 1]⟩
abbrev S1 : Shape := ⟨1, ![1]⟩
abbrev S1x1x1x1 : Shape := ⟨4, ![1, 1, 1, 1]⟩
abbrev S8x16x4096x5 : Shape := ⟨4, ![8, 16, 4096, 5]⟩
abbrev S4096 : Shape := ⟨1, ![4096]⟩
abbrev S1x4096x1 : Shape := ⟨3, ![1, 4096, 1]⟩
abbrev S8x4096 : Shape := ⟨2, ![8, 4096]⟩
abbrev S8x4096x1 : Shape := ⟨3, ![8, 4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S1x16x8x64x64, .f32⟩
  | .hbm, ⟨1, _⟩ => ⟨S8x1x16x64x64, .f32⟩
  | .hbm, ⟨2, _⟩ => ⟨S8x16x4096, .f32⟩
  | .hbm, ⟨3, _⟩ => ⟨S8x4096x4096, .f32⟩
  | .hbm, ⟨4, _⟩ => ⟨S8x4096x5, .f32⟩
  | .hbm, ⟨5, _⟩ => ⟨S8x4096x5, .i32⟩
  | .hbm, ⟨6, _⟩ => ⟨S8x16x4096x1, .f32⟩
  | .hbm, ⟨7, _⟩ => ⟨S8x1x4096x5, .i32⟩
  | .hbm, ⟨8, _⟩ => ⟨S_, .i32⟩
  | .hbm, ⟨9, _⟩ => ⟨S8x1x4096x5, .i32⟩
  | .hbm, ⟨10, _⟩ => ⟨S8x1x4096x5, .i1⟩
  | .hbm, ⟨11, _⟩ => ⟨S_, .i32⟩
  | .hbm, ⟨12, _⟩ => ⟨S8x1x4096x5, .i32⟩
  | .hbm, ⟨13, _⟩ => ⟨S8x1x4096x5, .i32⟩
  | .hbm, ⟨14, _⟩ => ⟨S8x1x4096x5, .i32⟩
  | .hbm, ⟨15, _⟩ => ⟨S8x4096x5x1, .i32⟩
  | .hbm, ⟨16, _⟩ => ⟨S8x16x4096, .f32⟩
  | .hbm, ⟨17, _⟩ => ⟨S1, .i32⟩
  | .hbm, ⟨18, _⟩ => ⟨S_, .i32⟩
  | .hbm, ⟨19, _⟩ => ⟨S8x4096x5x1, .i32⟩
  | .hbm, ⟨20, _⟩ => ⟨S8x4096x5x1, .i1⟩
  | .hbm, ⟨21, _⟩ => ⟨S1x1x1x1, .i32⟩
  | .hbm, ⟨22, _⟩ => ⟨S8x4096x5x1, .i32⟩
  | .hbm, ⟨23, _⟩ => ⟨S8x4096x5x1, .i1⟩
  | .hbm, ⟨24, _⟩ => ⟨S8x4096x5x1, .i1⟩
  | .hbm, ⟨25, _⟩ => ⟨S_, .i1⟩
  | .hbm, ⟨26, _⟩ => ⟨S8x4096x5, .i1⟩
  | .hbm, ⟨27, _⟩ => ⟨S8x16x4096x5, .f32⟩
  | .hbm, ⟨28, _⟩ => ⟨S8x16x4096x5, .i1⟩
  | .hbm, ⟨29, _⟩ => ⟨S_, .f32⟩
  | .hbm, ⟨30, _⟩ => ⟨S8x16x4096x5, .f32⟩
  | .hbm, ⟨31, _⟩ => ⟨S8x16x4096x5, .f32⟩
  | .hbm, ⟨32, _⟩ => ⟨S4096, .i32⟩
  | .hbm, ⟨33, _⟩ => ⟨S1x4096x1, .i32⟩
  | .hbm, ⟨34, _⟩ => ⟨S8x4096x5, .i32⟩
  | .hbm, ⟨35, _⟩ => ⟨S8x4096x5, .i32⟩
  | .hbm, ⟨36, _⟩ => ⟨S8x4096x5, .i32⟩
  | .hbm, ⟨37, _⟩ => ⟨S8x4096x5, .f32⟩
  | .hbm, ⟨38, _⟩ => ⟨S_, .f32⟩
  | .hbm, ⟨39, _⟩ => ⟨S8x4096x5, .f32⟩
  | .hbm, ⟨40, _⟩ => ⟨S8x4096x5, .f32⟩
  | .hbm, ⟨41, _⟩ => ⟨S_, .f32⟩
  | .hbm, ⟨42, _⟩ => ⟨S8x4096x5, .f32⟩
  | .hbm, ⟨43, _⟩ => ⟨S8x4096x5, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x5, .f32⟩
  | .hbm, ⟨48, _⟩ => ⟨S8x4096x5, .f32⟩
  | .hbm, ⟨49, _⟩ => ⟨S8x1x4096x5, .f32⟩
  | .hbm, ⟨50, _⟩ => ⟨S8x16x4096x5, .f32⟩
  | .hbm, ⟨51, _⟩ => ⟨S8x16x4096x5, .f32⟩
  | .hbm, ⟨52, _⟩ => ⟨S_, .f32⟩
  | .hbm, ⟨53, _⟩ => ⟨S8x16x4096, .f32⟩
  | .hbm, ⟨54, _⟩ => ⟨S1x16x8x64x64, .f32⟩
  | _, _ => ⟨S1x16x8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_values : Ref sig .tc := ⟨.hbm, 4, rfl⟩
abbrev main_indices : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_c_1 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_c_3 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_cst : Ref sig .tc := ⟨.hbm, 29, rfl⟩
abbrev main_call0_v16 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst : Ref sig .tc := ⟨.hbm, 38, rfl⟩
abbrev main_v12 : Ref sig .tc := ⟨.hbm, 39, rfl⟩
abbrev main_v13 : Ref sig .tc := ⟨.hbm, 40, rfl⟩
abbrev main_cst_0 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_2 : Ref sig .tc := ⟨.hbm, 52, rfl⟩
abbrev main_v23 : Ref sig .tc := ⟨.hbm, 53, rfl⟩
abbrev main_v24 : Ref sig .tc := ⟨.hbm, 54, rfl⟩

abbrev nD : Nat := 1
abbrev τ : Topo := Topo.v7x

variable {F : FTy → Type} [FloatOps F]
-- ==== Proof.TopFive.lean ====
/- What five rounds of "the greatest entry below the last one" find in a row of numbers, beside what a stable sort
   in descending order puts first. Pure mathematics over the extended reals: no program is named here. -/
module

public import Idealize.ShloMosaic.Lib.SortFacts
public import Mathlib.Data.EReal.Operations
public import Mathlib.Algebra.BigOperators.Fin

@[expose] public section

noncomputable section

namespace Cert.TopFive

open Idealize.ShloMosaic

variable {n : ℕ}

/-- The six positions `q 0 … q 5` lead the row `f`: their entries strictly decrease, and every other position's entry
    is at most the last of them. -/
structure Leads (f : Fin n → EReal) (q : Fin 6 → Fin n) : Prop where
  strict : ∀ k l : Fin 6, k < l → f (q l) < f (q k)
  rest : ∀ j, (∃ k : Fin 6, j = q k) ∨ f j ≤ f (q 5)

/-- The greatest entry of a row, a maximum folded from the least extended real. -/
def greatest (f : Fin n → EReal) : EReal := (Finset.univ : Finset (Fin n)).fold max ⊥ f

/-- One round: the greatest of the entries below `t`. -/
def below (f : Fin n → EReal) (t : EReal) : EReal := greatest fun j => if f j < t then f j else ⊥

/-- The folded maximum is the entry that bounds all the others. -/
theorem greatest_eq {f : Fin n → EReal} {v : EReal} (hle : ∀ j, f j ≤ v) (hv : ∃ a, f a = v) : greatest f = v := by
  obtain ⟨a, rfl⟩ := hv
  refine le_antisymm ?_ ?_
  · exact Finset.fold_max_le _ |>.mpr ⟨bot_le, fun j _ => hle j⟩
  · exact (Finset.le_fold_max _).mpr (.inr ⟨a, Finset.mem_univ a, le_rfl⟩)

namespace Leads

variable {f : Fin n → EReal} {q : Fin 6 → Fin n} (h : Leads f q)
include h

/-- Along the leading positions the entries never increase. -/
theorem anti {k l : Fin 6} (hkl : k ≤ l) : f (q l) ≤ f (q k) := by
  rcases lt_or_eq_of_le hkl with hlt | rfl
  · exact (h.strict k l hlt).le
  · exact le_rfl

/-- A smaller leading entry stands later. -/
theorem later {k l : Fin 6} (hlt : f (q l) < f (q k)) : k < l := by
  by_contra hn
  exact absurd (h.anti (not_lt.mp hn)) (not_le.mpr hlt)

/-- The leading positions are different. -/
theorem inj : Function.Injective q := by
  intro k l hkl
  rcases lt_trichotomy k l with hlt | heq | hgt
  · exact absurd (h.strict k l hlt) (by rw [hkl]; exact lt_irrefl _)
  · exact heq
  · exact absurd (h.strict l k hgt) (by rw [hkl]; exact lt_irrefl _)

/-- The first leading entry is the greatest of all. -/
theorem first : greatest f = f (q 0) := by
  refine greatest_eq (fun j => ?_) ⟨q 0, rfl⟩
  rcases h.rest j with ⟨k, rfl⟩ | hj
  · exact h.anti (Fin.zero_le k)
  · exact hj.trans (h.anti (Fin.zero_le 5))

/-- A round that starts from one leading entry finds the next one. -/
theorem next {k l : Fin 6} (hkl : k.val + 1 = l.val) : below f (f (q k)) = f (q l) := by
  have hlt : k < l := by rw [Fin.lt_def]; omega
  refine greatest_eq (fun j => ?_) ⟨q l, if_pos (h.strict k l hlt)⟩
  split
  · rename_i hj
    rcases h.rest j with ⟨i, rfl⟩ | hr
    · have hki := h.later hj
      exact h.anti (by rw [Fin.le_def]; rw [Fin.lt_def] at hki; omega)
    · exact hr.trans (h.anti (by rw [Fin.le_def]; have := l.isLt; omega))
  · exact bot_le

/-- Five rounds end at the fifth leading entry. -/
theorem fifth : below f (below f (below f (below f (greatest f)))) = f (q 4) := by
  rw [h.first, h.next (k := 0) (l := 1) rfl, h.next (k := 1) (l := 2) rfl, h.next (k := 2) (l := 3) rfl,
    h.next (k := 3) (l := 4) rfl]

/-- The positions whose entry reaches the fifth leading entry are the first five leading positions. -/
theorem reaches (j : Fin n) : f (q 4) ≤ f j ↔ ∃ k : Fin 5, j = q k.castSucc := by
  constructor
  · intro hj
    have h45 := h.strict 4 5 (by decide)
    rcases h.rest j with ⟨k, rfl⟩ | hr
    · have hk : ¬ (4 : Fin 6) < k := fun hk => absurd (h.strict 4 k hk) (not_lt.mpr hj)
      have hk' : k.val < 5 := by rw [Fin.lt_def] at hk; have e : ((4 : Fin 6) : ℕ) = 4 := rfl; omega
      exact ⟨⟨k.val, hk'⟩, rfl⟩
    · exact absurd (hj.trans hr) (not_le.mpr h45)
  · rintro ⟨k, rfl⟩
    exact h.anti (by rw [Fin.le_def]; show k.val ≤ 4; omega)

/-- A sum that keeps only the positions reaching the fifth leading entry is the sum over the first five positions. -/
theorem sum_kept (g : Fin n → EReal) :
    (∑ j, if f (q 4) ≤ f j then g j else 0) = ∑ k : Fin 5, g (q k.castSucc) := by
  rw [← Finset.sum_filter]
  have himg : (Finset.univ.filter fun j => f (q 4) ≤ f j) = Finset.univ.image fun k : Fin 5 => q k.castSucc := by
    ext j
    simp only [Finset.mem_filter, Finset.mem_univ, true_and, Finset.mem_image, h.reaches j]
    exact exists_congr fun k => eq_comm
  rw [himg, Finset.sum_image]
  intro a _ b _ hab
  exact Fin.castSucc_injective 5 (h.inj hab)

end Leads

/-- The position that a stable descending sort of the row `f` puts at place `k`. -/
def place (f : Fin n → EReal) (k : Fin n) : Fin n := sortedFrom (fun a b => decide (f b < f a)) k

/-- Down the sorted row the entries never increase. -/
theorem place_anti (f : Fin n → EReal) {i j : Fin n} (hij : i ≤ j) : f (place f j) ≤ f (place f i) := by
  rcases lt_or_eq_of_le hij with hlt | rfl
  · have hB := sortedFrom_noInversion (fun a b => decide (f b < f a)) (fun a b => decide (f b < f a))
      (fun a b hab => by simp only [decide_eq_true_eq, decide_eq_false_iff_not, not_lt] at hab ⊢; exact hab.le)
      (fun _ _ hab => hab)
      (fun a b c hab hbc => by
        simp only [decide_eq_false_iff_not, not_lt] at hab hbc ⊢
        exact hab.trans hbc) i j hlt
    exact not_lt.mp (of_decide_eq_false hB)
  · exact le_rfl

/-- Where the first six sorted entries strictly decrease from one to the next, the first six places lead the row. -/
theorem leads_place (f : Fin n → EReal) (h6 : 6 ≤ n)
    (hs : ∀ k : Fin 5, f (place f ⟨k.val + 1, by omega⟩) < f (place f ⟨k.val, by omega⟩)) :
    Leads f fun k => place f ⟨k.val, by omega⟩ where
  strict k l hkl := by
    rw [Fin.lt_def] at hkl
    have hstep := hs ⟨k.val, by have := l.isLt; omega⟩
    exact lt_of_le_of_lt (place_anti f (by rw [Fin.le_def]; exact hkl)) hstep
  rest j := by
    obtain ⟨i, hi⟩ := sortedFrom_surjective (fun a b => decide (f b < f a)) j
    by_cases hlt : i.val < 6
    · exact .inl ⟨⟨i.val, hlt⟩, hi.symm⟩
    · right
      rw [← hi]
      exact place_anti f (by rw [Fin.le_def]; show 5 ≤ i.val; omega)

end Cert.TopFive

end
-- ==== Proof.Weights.lean ====
/- The weight of two positions, one over their distance enlarged by a small constant, and what dividing a weighted sum
   by the sum of the weights is over the extended reals. No program is named here. -/
module

public import Idealize.ShloMosaic.PureOps.Ideal.Laws
public import Idealize.ShloMosaic.Lib.IdealHost
public import Mathlib.Data.EReal.Operations

@[expose] public section

noncomputable section

namespace Cert.Weights

open Idealize.ShloMosaic

/-- The constant added to a distance: the binary32 number nearest to one hundred-thousandth. -/
def eps : ℝ := 10995116 * (2 : ℝ) ^ (-40 : ℤ)

theorem eps_pos : 0 < eps := by unfold eps; positivity

/-- The pattern that both programs carry for it denotes it. -/
theorem ofBits_eps : Ideal.ofBits .f32 0x3727C5AC#32 = ((eps : ℝ) : EReal) := by
  unfold eps
  simp [Ideal.ofBits, Ideal.ieee, -EReal.coe_mul]

/-- The pattern of the maximum's starting value denotes the least extended real. -/
theorem ofBits_least : Ideal.ofBits .f32 0xFF800000#32 = (⊥ : EReal) := by
  simp [Ideal.ofBits, Ideal.ieee]

/-- The weight of the positions `i` and `j`. -/
def weight (i j : ℕ) : ℝ := 1 / (|(j : ℝ) - (i : ℝ)| + eps)

theorem weight_pos (i j : ℕ) : 0 < weight i j := by
  unfold weight
  have := eps_pos
  have := abs_nonneg ((j : ℝ) - (i : ℝ))
  positivity

/-- The greater of a real and its negative is its absolute value. -/
theorem max_neg_coe (x : ℝ) : max (x : EReal) (-(x : EReal)) = ((|x| : ℝ) : EReal) := by
  rw [← EReal.coe_neg, ← EReal.coe_strictMono.monotone.map_max, max_comm, max_comm (-x) x]; rfl

/-- One divided by a distance and the constant is the weight. -/
theorem div_weight (i j : ℕ) (d : ℝ) (hd : d = |(j : ℝ) - (i : ℝ)|) :
    Ideal.div 1 ((d : EReal) + ((eps : ℝ) : EReal)) = ((weight i j : ℝ) : EReal) := by
  have hpos : d + eps ≠ 0 := by
    have := eps_pos
    have := abs_nonneg ((j : ℝ) - (i : ℝ))
    rw [hd]; positivity
  rw [← EReal.coe_add, Ideal.div_coe hpos, one_mul, hd]
  rfl

/-- A sum of reals taken over the extended reals is the real sum. -/
theorem coe_sum {ι : Type} (s : Finset ι) (w : ι → ℝ) : (∑ k ∈ s, ((w k : ℝ) : EReal)) = ((∑ k ∈ s, w k : ℝ) : EReal) := by
  induction s using Finset.cons_induction with
  | empty => simp
  | cons a s ha ih => rw [Finset.sum_cons, Finset.sum_cons, ih, EReal.coe_add]

/-- A nonnegative real factor may be taken into a sum of any extended reals. -/
theorem sum_mul_coe {ι : Type} (s : Finset ι) (a : ι → EReal) {r : ℝ} (hr : 0 ≤ r) :
    (∑ k ∈ s, a k) * (r : EReal) = ∑ k ∈ s, a k * (r : EReal) := by
  induction s using Finset.cons_induction with
  | empty => simp
  | cons b s hb ih =>
    rw [Finset.sum_cons, Finset.sum_cons, ← ih]
    exact EReal.right_distrib_of_nonneg_of_ne_top (by exact_mod_cast hr) (EReal.coe_ne_top r) _ _

/-- Dividing the weighted sum by the sum of the positive weights is weighting by the divided weights. -/
theorem normalized {K : ℕ} (hK : 0 < K) (a : Fin K → EReal) (w : Fin K → ℝ) (hw : ∀ k, 0 < w k) :
    (∑ k, a k * ((w k : ℝ) : EReal)) * Ideal.div 1 (∑ k, ((w k : ℝ) : EReal))
      = ∑ k, a k * Ideal.div ((w k : ℝ) : EReal) (∑ l, ((w l : ℝ) : EReal)) := by
  have hS : 0 < ∑ k, w k := Finset.sum_pos (fun k _ => hw k) ⟨⟨0, hK⟩, Finset.mem_univ _⟩
  rw [coe_sum, Ideal.div_coe hS.ne', one_mul, sum_mul_coe _ _ (by positivity)]
  refine Finset.sum_congr rfl fun k _ => ?_
  rw [Ideal.div_coe hS.ne', mul_assoc]

end Cert.Weights

end
-- ==== Proof.Block.lean ====
/- What one grid point of the kernel computes from its block, read at one entry. -/
module

public import proofs.«01_k».proof.Proof.TopFive
public import proofs.«01_k».proof.Proof.Weights
public import proofs.«01_k».proof.Proof.Gen.KernelIdeal.Skeleton
public import Idealize.ShloMosaic.Lib.Pointwise

@[expose] public section

set_option maxRecDepth 16384

noncomputable section

namespace Cert.Block

open Idealize.ShloMosaic Cert.KernelIdeal Cert.KernelIdeal.Gen Cert.TopFive Cert.Weights

/-- The row maximum of a matrix, as a matrix constant along the rows. -/
def spread (w : FVec Ideal S1024 .f32) : FVec Ideal S1024x4096 .f32 :=
  broadcastTo S1024x4096 (shapeCast S1024x1 w shapeCasts_S1024_S1024x1) broadcasts_S1024x1_S1024x4096

/-- The maximum of every row of a matrix. -/
def rowMax (v : FVec Ideal S1024x4096 .f32) : FVec Ideal S1024 .f32 :=
  multiReduction .maximumf [1] S1024 v 0xFF800000#32 reduces_S1024x4096_S1024 (.inl rfl) rfl

/-- A matrix with the entries that do not lie below their row's bound replaced by the least extended real. -/
def cut (v : FVec Ideal S1024x4096 .f32) (w : FVec Ideal S1024 .f32) : FVec Ideal S1024x4096 .f32 :=
  select (cmpf .olt v (spread w)) v (broadcast S1024x4096 (Scalar.ofBits (F := Ideal) .f32 0xFF800000#32))

/-- The kernel's similarity of two positions, the inner product of their columns. -/
def score (y : FVec Ideal S16x1024 .f32) (x : FVec Ideal S16x4096 .f32) (i : Fin 1024) (j : Fin 4096) : EReal :=
  ∑ c : Fin 16, y (ix2 c i) * x (ix2 c j)

/-- The bound of a row is read at every entry of that row. -/
theorem spread_apply (w : FVec Ideal S1024 .f32) (i : Fin 1024) (j : Fin 4096) : spread w (ix2 i j) = w (ix1 i) := by
  unfold spread
  pointwise

/-- A row's maximum is the greatest of its entries. -/
theorem rowMax_apply (v : FVec Ideal S1024x4096 .f32) (i : Fin 1024) :
    rowMax v (ix1 i) = greatest fun j => v (ix2 i j) := by
  unfold rowMax greatest
  pointwise
  rw [ofBits_least]

/-- An entry is kept where it lies below its row's bound. -/
theorem cut_apply (v : FVec Ideal S1024x4096 .f32) (w : FVec Ideal S1024 .f32) (i : Fin 1024) (j : Fin 4096) :
    cut v w (ix2 i j) = if v (ix2 i j) < w (ix1 i) then v (ix2 i j) else ⊥ := by
  unfold cut
  pointwise
  rw [ofBits_least, spread_apply]

/-- One round of the kernel is one step to the greatest entry below the last bound. -/
theorem round_apply (v : FVec Ideal S1024x4096 .f32) (w : FVec Ideal S1024 .f32) (i : Fin 1024) :
    rowMax (cut v w) (ix1 i) = below (fun j => v (ix2 i j)) (w (ix1 i)) := by
  rw [rowMax_apply]
  unfold below
  exact congrArg greatest (funext fun j => cut_apply v w i j)

/-- The kernel's matrix of similarities. -/
def scores (x : FVec Ideal S16x4096 .f32) (y : FVec Ideal S16x1024 .f32) : FVec Ideal S1024x4096 .f32 :=
  matmul dot_S16x1024_S16x4096_S1024x4096_0_0_1_1_n_n none (shapeCast S16x1024 y shapeCasts_S16x1024_S16x1024)
    (shapeCast S16x4096 x shapeCasts_S16x4096_S16x4096) (constant S1024x4096 .f32 0x00000000#32)

/-- Its entry at two positions is the inner product of their columns. -/
theorem scores_apply (x : FVec Ideal S16x4096 .f32) (y : FVec Ideal S16x1024 .f32) (i : Fin 1024) (j : Fin 4096) :
    scores x y (ix2 i j) = score y x i j := by
  unfold scores score
  pointwise

/-- The kernel's comparison, its five rounds written one inside the other. -/
theorem pay4_eq (x : FVec Ideal S16x4096 .f32) (y : FVec Ideal S16x1024 .f32) :
    k0_pay4 (F := Ideal) x y = cmpf .oge (scores x y) (spread (rowMax (cut (scores x y) (rowMax (cut (scores x y) (rowMax (cut (scores x y) (rowMax (cut (scores x y) (rowMax (scores x y))))))))))) := by
  rfl

/-- The comparison "at least" of extended reals as a bit. -/
theorem atLeast (a b : EReal) : FloatOps.cmpf (F := Ideal) (φ := .f32) .oge a b = BitVec.ofBool (decide (b ≤ a)) := rfl

/-- Five rounds on a row of a matrix. -/
theorem rounds_apply (v : FVec Ideal S1024x4096 .f32) (i : Fin 1024) (f : Fin 4096 → EReal) (hf : (fun j => v (ix2 i j)) = f) :
    rowMax (cut v (rowMax (cut v (rowMax (cut v (rowMax (cut v (rowMax v)))))))) (ix1 i)
      = below f (below f (below f (below f (greatest f)))) := by
  rw [round_apply, round_apply, round_apply, round_apply, rowMax_apply, hf]

/-- The bit that the kernel computes says whether a similarity reaches the bound that five rounds find. -/
theorem pay4_apply (x : FVec Ideal S16x4096 .f32) (y : FVec Ideal S16x1024 .f32) (i : Fin 1024) (j : Fin 4096) :
    k0_pay4 (F := Ideal) x y (ix2 i j) = BitVec.ofBool (decide
      (below (score y x i) (below (score y x i) (below (score y x i) (below (score y x i) (greatest (score y x i)))))
        ≤ score y x i j)) := by
  rw [pay4_eq, ValueIdx.cmpf_apply, spread_apply,
    rounds_apply _ i (score y x i) (funext fun j => scores_apply x y i j), scores_apply, atLeast]

/-- A word built of a block number and a place in the block is their position. -/
theorem toInt_position {a i : ℕ} (ha : a < 4) (hi : i < 1024) :
    (IntOp.addi (Scalar.muli (BitVec.ofNat 32 a) 1024#32) (BitVec.ofNat 32 i)).toInt = ((1024 * a + i : ℕ) : ℤ) := by
  have e : IntOp.addi (Scalar.muli (BitVec.ofNat 32 a) 1024#32) (BitVec.ofNat 32 i) = BitVec.ofNat 32 (1024 * a + i) := by
    show BitVec.ofNat 32 a * BitVec.ofNat 32 1024 + BitVec.ofNat 32 i = _
    rw [← BitVec.ofNat_mul, ← BitVec.ofNat_add, Nat.mul_comm]
  rw [e, BitVec.toInt_ofNat']
  norm_num
  rw [Int.bmod_eq_of_le] <;> omega

/-- The matrix that the first point of a row of blocks stores holds the weights. -/
theorem pay2_apply (t : grid0.Coords) (i : Fin 1024) (j : Fin 4096) :
    k0_pay2 (F := Ideal) t (ix2 i j) = ((weight (1024 * (t 0).val + i.val) j.val : ℝ) : EReal) := by
  have ht : (t 0).val < 4 := (t 0).isLt
  unfold k0_pay2
  pointwise
  rw [ofBits_eps]
  have h1 : FloatOps.sitofp (F := Ideal) .f32 (BitVec.ofNat 32 j.val) = (((j.val : ℕ) : ℝ) : EReal) := by
    show (((BitVec.ofNat 32 j.val).toInt : ℝ) : EReal) = _
    rw [BitVec.toInt_ofNat', Int.bmod_eq_of_le] <;> norm_num <;> omega
  have h2 : FloatOps.sitofp (F := Ideal) .f32 (IntOp.addi (Scalar.muli (BitVec.ofNat 32 (t 0).val) 1024#32) (BitVec.ofNat 32 i.val))
      = (((1024 * (t 0).val + i.val : ℕ) : ℝ) : EReal) := by
    show ((((IntOp.addi (Scalar.muli (BitVec.ofNat 32 (t 0).val) 1024#32) (BitVec.ofNat 32 i.val)).toInt : ℤ) : ℝ) : EReal) = _
    rw [toInt_position ht i.isLt, Int.cast_natCast]
  rw [h1, h2, ← EReal.coe_sub]
  show Ideal.div 1 (max ((_ : ℝ) : EReal) (-((_ : ℝ) : EReal)) + _) = _
  rw [max_neg_coe]
  exact div_weight _ _ _ rfl

/-- What a grid point stores, over any bits and weights: the kept weighted sum times one over the kept weights' sum. -/
theorem pay1_apply (x : FVec Ideal S16x4096 .f32) (b : IVec S1024x4096 1) (w : FVec Ideal S1024x4096 .f32) (c : Fin 16)
    (i : Fin 1024) : k0_pay1 (F := Ideal) x b w (ix3 0 c i)
      = (∑ j, Scalar.select (b (ix2 i j)) (x (ix2 c j) * w (ix2 i j)) 0)
        * Ideal.div 1 (∑ j, Scalar.select (b (ix2 i j)) (w (ix2 i j)) 0) := by
  unfold k0_pay1
  pointwise

/-- A change of shape to the same shape changes nothing. -/
theorem pay3_eq (x : FVec Ideal S16x4096 .f32) : k0_pay3 (F := Ideal) x = x := shapeCast_self _ _

/-- Choosing by the bit of a decided statement is choosing by the statement. -/
theorem select_decide (p : Prop) [Decidable p] (a : EReal) :
    Scalar.select (BitVec.ofBool (decide p)) a 0 = if p then a else 0 := by
  by_cases hp : p <;> simp [hp, Scalar.select]

/-- What a grid point stores in its output block: where six positions lead the row of similarities, the average of the
    block's entries at the first five of them by their divided weights. -/
theorem stored_apply (x : FVec Ideal S16x4096 .f32) (y : FVec Ideal S16x1024 .f32) (w : FVec Ideal S1024x4096 .f32)
    (c : Fin 16) (i : Fin 1024) (wt : Fin 4096 → ℝ) (hw : ∀ j, w (ix2 i j) = ((wt j : ℝ) : EReal)) (hpos : ∀ j, 0 < wt j)
    (q : Fin 6 → Fin 4096) (h : Leads (score y x i) q) :
    k0_pay1 (F := Ideal) (k0_pay3 (F := Ideal) x) (k0_pay4 (F := Ideal) x y) w (ix3 0 c i)
      = ∑ k : Fin 5, x (ix2 c (q k.castSucc))
          * Ideal.div ((wt (q k.castSucc) : ℝ) : EReal) (∑ l : Fin 5, ((wt (q l.castSucc) : ℝ) : EReal)) := by
  rw [pay3_eq, pay1_apply]
  simp only [pay4_apply, h.fifth, select_decide, hw]
  rw [h.sum_kept fun j => x (ix2 c j) * ((wt j : ℝ) : EReal), h.sum_kept fun j => ((wt j : ℝ) : EReal)]
  exact normalized (by decide) _ _ fun k => hpos _

end Cert.Block

end
-- ==== Proof.Rows.lean ====
/- The mathematics of the problem: the rows of a slice, the similarity of two positions, and the average of a position's
   five most similar positions by their divided weights. -/
module

public import proofs.«01_k».proof.Proof.TopFive
public import proofs.«01_k».proof.Proof.Weights
public import Idealize.ShloMosaic.Lib.Pointwise

@[expose] public section

noncomputable section

namespace Cert.Rows

open Idealize.ShloMosaic Cert.TopFive Cert.Weights

/-- The feature map: one batch entry, sixteen channels, eight slices of 64 by 64 positions. -/
abbrev Map : Type := (⟨5, ![1, 16, 8, 64, 64]⟩ : Shape).Idx → EReal

/-- Channel `c` of slice `d` at position `j` of the slice, its lines one after the other. -/
def row (X : Map) (d : Fin 8) (c : Fin 16) (j : Fin 4096) : EReal :=
  X (ix5 0 c d ⟨j.val / 64, by omega⟩ ⟨j.val % 64, by omega⟩)

/-- The similarity of two positions of a slice. -/
def sim (X : Map) (d : Fin 8) (i j : Fin 4096) : EReal := ∑ c : Fin 16, row X d c i * row X d c j

/-- The `k`-th of the positions most similar to `i`, the earlier one first where two are equally similar. -/
def lead (X : Map) (d : Fin 8) (i : Fin 4096) (k : Fin 5) : Fin 4096 := place (sim X d i) ⟨k.val, by omega⟩

/-- The average of channel `c` over the five positions most similar to `i`, by their divided weights. -/
def average (X : Map) (d : Fin 8) (c : Fin 16) (i : Fin 4096) : EReal :=
  ∑ k : Fin 5, row X d c (lead X d i k)
    * Ideal.div ((weight i.val (lead X d i k).val : ℝ) : EReal) (∑ l : Fin 5, ((weight i.val (lead X d i l).val : ℝ) : EReal))

/-- The six greatest similarities of position `i` are different numbers. -/
def NoTies (X : Map) (d : Fin 8) (i : Fin 4096) : Prop :=
  ∀ k : Fin 5, sim X d i (place (sim X d i) ⟨k.val + 1, by omega⟩) < sim X d i (place (sim X d i) ⟨k.val, by omega⟩)

end Cert.Rows

end
-- ==== Proof.Array.lean ====
/- What the kernel's result array holds after the run, entry by entry. -/
module

public import proofs.«01_k».proof.Proof.Block
public import proofs.«01_k».proof.Proof.Rows
public import proofs.«01_k».proof.Proof.Gen.KernelIdeal.Frame
public import Idealize.ShloMosaic.Lib.Tactic

@[expose] public section

set_option maxRecDepth 16384

noncomputable section

namespace Cert.Array

open Idealize.ShloMosaic Idealize.ShloMosaic.TcCoe Idealize.SL.Sem Cert.KernelIdeal Cert.KernelIdeal.Gen
open Cert.Block Cert.Rows Cert.TopFive Cert.Weights

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The columns of a block that one grid point takes as its own positions. -/
def columns (t : grid0.Coords) (x : Vec Ideal S16x4096 .f32) : Vec Ideal S16x1024 .f32 :=
  View.ld x (Rect.unit (s := S16x4096) (k0_off1 t) S16x1024.size (k0_off1_inb t))

/-- A point that fills the weights leaves them in the scratch. -/
theorem scratch_A (c : Dev nD) (t : grid0.Coords) (a2 : Memref sig .tc .vmem S16x4096 .f32) (h2 : a2.IsWhole)
    (a3 : Memref sig .tc .vmem S1x16x1024 .f32) (h3 : a3.IsWhole) (a4 : Memref sig .tc .vmem S1024x4096 .f32) (h4 : a4.IsWhole)
    (hc : cond0_0 t) (x : Vec Ideal S16x4096 .f32) :
    sout0_A_0 c t a2 h2 a3 h3 a4 h4 hc x = k0_pay2 (F := Ideal) t := by
  unfold sout0_A_0
  rw [View.read_writes_eq_canon _ _ _ (scover0_A_0 c t a2 h2 a3 h3 a4 h4 hc x)]
  unfold kernelRun0_A
  dsimp only
  sl_unfold_words
  rw [View.canon_unit_zero zero2]

/-- Such a point stores the block's value with the weights it has just filled. -/
theorem out_A (c : Dev nD) (t : grid0.Coords) (a2 : Memref sig .tc .vmem S16x4096 .f32) (h2 : a2.IsWhole)
    (a3 : Memref sig .tc .vmem S1x16x1024 .f32) (h3 : a3.IsWhole) (a4 : Memref sig .tc .vmem S1024x4096 .f32) (h4 : a4.IsWhole)
    (hc : cond0_0 t) (x : Vec Ideal S16x4096 .f32) :
    out0_A_1 c t a2 h2 a3 h3 a4 h4 hc x = k0_pay1 (F := Ideal) (k0_pay3 (F := Ideal) x) (k0_pay4 (F := Ideal) x (columns t x)) (k0_pay2 (F := Ideal) t) := by
  unfold out0_A_1
  rw [View.read_writes_eq_canon _ _ _ (cover0_A_1 c t a2 h2 a3 h3 a4 h4 hc x)]
  unfold kernelRun0_A
  dsimp only
  sl_unfold_words
  rw [View.canon_unit_zero zero3]
  rw [View.readCov_unit_zero (S := S1024x4096) _ zero2]
  simp only [View.readAt_eq_ld, h2.read_unread, View.ld_unit_zero (S := S16x4096) zero2]
  rfl

/-- Every other point stores the block's value with the weights that the scratch holds. -/
theorem out_B (c : Dev nD) (t : grid0.Coords) (a2 : Memref sig .tc .vmem S16x4096 .f32) (h2 : a2.IsWhole)
    (a3 : Memref sig .tc .vmem S1x16x1024 .f32) (h3 : a3.IsWhole) (a4 : Memref sig .tc .vmem S1024x4096 .f32) (h4 : a4.IsWhole)
    (hc : ¬cond0_0 t) (x : Vec Ideal S16x4096 .f32) (w : Vec Ideal S1024x4096 .f32) :
    out0_B_1 c t a2 h2 a3 h3 a4 h4 hc x w = k0_pay1 (F := Ideal) (k0_pay3 (F := Ideal) x) (k0_pay4 (F := Ideal) x (columns t x)) w := by
  unfold out0_B_1
  rw [View.read_writes_eq_canon _ _ _ (cover0_B_1 c t a2 h2 a3 h3 a4 h4 hc x w)]
  unfold kernelRun0_B
  dsimp only
  sl_unfold_words
  rw [View.canon_unit_zero zero3]
  simp only [View.readAt_eq_ld, h2.read_unread, h4.read_unread, View.ld_unit_zero (S := S16x4096) zero2,
    View.ld_unit_zero (S := S1024x4096) zero2]
  rfl

/-- The grid coordinates of a point: its row of blocks and its slice. -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The block that a point reads is the one of its slice. -/
theorem index_val : ∀ t : Fin cfg0.N, win0_0.index t 0 = 0 ∧ win0_0.index t 1 = t.val % 8 :=
  (by decide +kernel : ∀ t : Fin grid0.N, win0_0.index t 0 = 0 ∧ win0_0.index t 1 = t.val % 8)

/-- The columns that a point takes start at its row of blocks. -/
theorem offset_val : ∀ t : Fin cfg0.N, k0_off1 (grid0.coords t) = ![0, 1024 * (t.val / 8)] :=
  (by decide +kernel : ∀ t : Fin grid0.N, k0_off1 (grid0.coords t) = ![0, 1024 * (t.val / 8)])

theorem points (t : Fin cfg0.N) : t.val < 32 := lt_of_lt_of_eq t.isLt N_0

/-- Those columns, read at an entry. -/
theorem columns_apply (t : Fin cfg0.N) (x : Vec Ideal S16x4096 .f32) (c : Fin 16) (i : Fin 1024) :
    columns (grid0.coords t) x (ix2 c i) = x (ix2 c ⟨1024 * (t.val / 8) + i.val, by have := points t; omega⟩) := by
  unfold columns
  have ho := offset_val t
  generalize hg : k0_off1_inb (grid0.coords t) = hb
  clear hg
  generalize k0_off1 (grid0.coords t) = o at ho hb
  subst ho
  pointwise

/-- The feature map with its slices side by side, read at an entry. -/
theorem flat_apply (X : Vec Ideal S1x16x8x64x64 .f32) (d : Fin 8) (ch : Fin 16) (j : Fin 4096) :
    shapeCast S16x32768 X shapeCasts_S1x16x8x64x64_S16x32768 (ix2 ch ⟨4096 * d.val + j.val, by omega⟩) = row X d ch j := by
  unfold row
  pointwise
  have e1 : (4096 * d.val + j.val) / 64 % 64 = j.val / 64 := by omega
  have e2 : (4096 * d.val + j.val) % 64 = j.val % 64 := by omega
  simp only [e1, e2]

/-- The block that a point reads holds the rows of its slice. -/
theorem block_apply (c : Dev nD) (t : Fin cfg0.N) (ch : Fin 16) (j : Fin 4096) :
    (iblk m c 0 t : Vec Ideal S16x4096 .f32) (ix2 ch j)
      = row (m ((c : Thread nD τ).loc main_arg0)) ⟨t.val % 8, by omega⟩ ch j := by
  have hV : V m c main_v0 = shapeCast S16x32768 (m ((c : Thread nD τ).loc main_arg0)) shapeCasts_S1x16x8x64x64_S16x32768 := by
    show StableHlo.after hostOps0 _ _ = _
    simp only [hostOps0]
    after_results_simp
    rfl
  have he : ((cfg0.win 0).blk t).view.emb (ix2 ch j)
      = (ix2 ch ⟨4096 * (t.val % 8) + j.val, by omega⟩ : S16x32768.Idx) := by
    funext a
    apply Fin.ext
    match a with
    | ⟨0, _⟩ => show win0_0.index t 0 * 16 + 1 * ch.val = ch.val; rw [(index_val t).1]; omega
    | ⟨1, _⟩ => show win0_0.index t 1 * 4096 + 1 * j.val = 4096 * (t.val % 8) + j.val; rw [(index_val t).2]; omega
  unfold iblk
  rw [View.read_apply]
  show V m c main_v0 _ = _
  rw [hV, he]
  exact flat_apply _ ⟨t.val % 8, by omega⟩ ch j

/-- A point that fills the scratch leaves the weights of its row of blocks in it. -/
theorem scratch_filled (c : Dev nD) (t : Fin cfg0.N) (h0 : t.val % 8 = 0) (i : Fin 1024) (j : Fin 4096) :
    (outsAt0 m c t.val t.isLt).2 (ix2 i j) = ((weight (1024 * (t.val / 8) + i.val) j.val : ℝ) : EReal) := by
  rw [outsAt0_A m c t h0]
  dsimp only
  rw [scratch_A, pay2_apply, (coords_val t).1]

/-- Any other point leaves the scratch as the point before left it. -/
theorem scratch_kept (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- The scratch holds the weights of the point's row of blocks after every point. -/
theorem scratch_apply (c : Dev nD) (n : ℕ) : ∀ (hn : n < cfg0.N) (i : Fin 1024) (j : Fin 4096),
    (outsAt0 m c n hn).2 (ix2 i j) = ((weight (1024 * (n / 8) + i.val) j.val : ℝ) : EReal) := by
  induction n using Nat.strong_induction_on with
  | _ n ih =>
    intro hn i j
    by_cases h0 : n % 8 = 0
    · exact scratch_filled m c ⟨n, hn⟩ h0 i j
    · have hk := congrFun (scratch_kept m c ⟨n, hn⟩ h0) (ix2 i j)
      dsimp only at hk
      rw [hk, ih (n - 1) (by omega), show (n - 1) / 8 = n / 8 by omega]

/-- A point's similarities are those of the slice. -/
theorem score_apply (c : Dev nD) (t : Fin cfg0.N) (i : Fin 1024) :
    score (columns (grid0.coords t) (iblk m c 0 t)) (iblk m c 0 t) i
      = sim (m ((c : Thread nD τ).loc main_arg0)) ⟨t.val % 8, by omega⟩ ⟨1024 * (t.val / 8) + i.val, by have := points t; omega⟩ := by
  funext j
  unfold score sim
  refine Finset.sum_congr rfl fun ch _ => ?_
  rw [columns_apply, block_apply, block_apply]

/-- WHAT A POINT LEAVES in its output block, where the six greatest similarities are different numbers. -/
theorem left_apply (c : Dev nD) (t : Fin cfg0.N) (ch : Fin 16) (i : Fin 1024)
    (h : NoTies (m ((c : Thread nD τ).loc main_arg0)) ⟨t.val % 8, by omega⟩ ⟨1024 * (t.val / 8) + i.val, by have := points t; omega⟩) :
    (outsAt0 m c t.val t.isLt).1 (ix3 0 ch i)
      = average (m ((c : Thread nD τ).loc main_arg0)) ⟨t.val % 8, by omega⟩ ch ⟨1024 * (t.val / 8) + i.val, by have := points t; omega⟩ := by
  have hl := leads_place _ (by decide) h
  rw [← score_apply] at hl
  have hs : ∀ w : Vec Ideal S1024x4096 .f32,
      (∀ j, w (ix2 i j) = ((weight (1024 * (t.val / 8) + i.val) j.val : ℝ) : EReal)) →
      k0_pay1 (F := Ideal) (k0_pay3 (F := Ideal) (iblk m c 0 t)) (k0_pay4 (F := Ideal) (iblk m c 0 t)
        (columns (grid0.coords t) (iblk m c 0 t))) w (ix3 0 ch i)
      = average (m ((c : Thread nD τ).loc main_arg0)) ⟨t.val % 8, by omega⟩ ch ⟨1024 * (t.val / 8) + i.val, by have := points t; omega⟩ := fun w hw => by
    rw [stored_apply _ _ w ch i _ hw (fun j => weight_pos _ _) _ hl]
    simp only [block_apply]
    rw [score_apply]
    rfl
  by_cases h0 : t.val % 8 = 0
  · rw [outsAt0_A m c t h0]
    dsimp only
    rw [out_A]
    refine hs _ fun j => ?_
    rw [pay2_apply, (coords_val t).1]
  · rw [outsAt0_B m c t h0]
    dsimp only
    rw [out_B]
    refine hs _ fun j => ?_
    rw [scratch_apply, show (t.val - 1) / 8 = t.val / 8 by omega]

/-- The block that a point writes is the one of its slice and its row of blocks. -/
theorem target_val : ∀ t : Fin cfg0.N, win0_1.index t = ![t.val % 8, 0, t.val / 8] :=
  (by decide +kernel : ∀ t : Fin grid0.N, win0_1.index t = ![t.val % 8, 0, t.val / 8])

/-- Two points write different blocks, so no point writes over another's entries. -/
theorem apart (t u : Fin cfg0.N) (_ : (cfg0.win 1).flush t = true) (_ : (cfg0.win 1).flush u = true) (hne : t ≠ u) :
    Disjoint ((cfg0.win 1).blk t).view.set ((cfg0.win 1).blk u).view.set := by
  refine (cfg0.win 1).disjoint_blk fun e => hne (Fin.ext ?_)
  have e' : (![t.val % 8, 0, t.val / 8] : Fin 3 → ℕ) = ![u.val % 8, 0, u.val / 8] :=
    (target_val t).symm.trans (Eq.trans e (target_val u))
  have a0 : t.val % 8 = u.val % 8 := congrFun e' 0
  have a2 : t.val / 8 = u.val / 8 := congrFun e' 2
  omega

/-- Where the entry of a point's block lies in the array. -/
theorem target_emb (t : Fin cfg0.N) (ch : Fin 16) (i : Fin 1024) :
    ((cfg0.win 1).blk t).view.emb (ix3 0 ch i)
      = (ix3 ⟨t.val % 8, by omega⟩ ch ⟨1024 * (t.val / 8) + i.val, by have := points t; omega⟩ : S8x16x4096.Idx) := by
  have h := target_val t
  have h0 : win0_1.index t 0 = t.val % 8 := congrFun h 0
  have h1 : win0_1.index t 1 = 0 := congrFun h 1
  have h2 : win0_1.index t 2 = t.val / 8 := congrFun h 2
  funext a
  apply Fin.ext
  match a with
  | ⟨0, _⟩ => show win0_1.index t 0 * 1 + 1 * 0 = t.val % 8; rw [h0]; omega
  | ⟨1, _⟩ => show win0_1.index t 1 * 16 + 1 * ch.val = ch.val; rw [h1]; omega
  | ⟨2, _⟩ => show win0_1.index t 2 * 1024 + 1 * i.val = 1024 * (t.val / 8) + i.val; rw [h2]; omega

/-- After the run the array holds at that entry what the point left in its block. -/
theorem array_point (c : Dev nD) (t : Fin cfg0.N) (ch : Fin 16) (i : Fin 1024) :
    ((dats m 0 c).arrAt 1 cfg0.N : S8x16x4096.Idx → EReal)
        (ix3 ⟨t.val % 8, by omega⟩ ch ⟨1024 * (t.val / 8) + i.val, by have := points t; omega⟩)
      = (outsAt0 m c t.val t.isLt).1 (ix3 0 ch i) := by
  rw [← target_emb t ch i]
  refine ((dats m 0 c).arrAt_emb_eq_flushed 1 apart t (flush0_1 t) (ix3 0 ch i)).trans ?_
  show (cfg0.win 1).cut (grid0.coords t) ((dats m 0 c).after 1 t) (ix3 0 ch i) = _
  rw [after0_1]
  rfl

/-- WHAT THE ARRAY HOLDS at an entry whose position has no ties: the average of the five most similar positions. -/
theorem array_apply (c : Dev nD) (d : Fin 8) (ch : Fin 16) (i : Fin 4096)
    (h : NoTies (m ((c : Thread nD τ).loc main_arg0)) d i) :
    ((dats m 0 c).arrAt 1 cfg0.N : S8x16x4096.Idx → EReal) (ix3 d ch i) = average (m ((c : Thread nD τ).loc main_arg0)) d ch i := by
  have hN : cfg0.N = 32 := N_0
  have hd := d.isLt
  have hi := i.isLt
  obtain ⟨t, ht⟩ : ∃ t : Fin cfg0.N, t.val = d.val + 8 * (i.val / 1024) := ⟨⟨d.val + 8 * (i.val / 1024), by omega⟩, rfl⟩
  have e1 : (⟨t.val % 8, by omega⟩ : Fin 8) = d := Fin.ext (by show t.val % 8 = d.val; omega)
  have e2 : (⟨1024 * (t.val / 8) + i.val % 1024, by have := points t; omega⟩ : Fin 4096) = i :=
    Fin.ext (by show 1024 * (t.val / 8) + i.val % 1024 = i.val; omega)
  have key := left_apply m c t ch ⟨i.val % 1024, Nat.mod_lt _ (by decide)⟩ (by rw [e1, e2]; exact h)
  rw [← array_point] at key
  rw [e1, e2] at key
  exact key

end Cert.Array

end
-- ==== Proof.Result.lean ====
/- What the kernel's result is after the run: the array that the blocks were written to, in the shape of the feature map. -/
module

public import proofs.«01_k».proof.Proof.Array

@[expose] public section

set_option maxRecDepth 16384

noncomputable section

namespace Cert.Result

open Idealize.ShloMosaic Idealize.ShloMosaic.TcCoe Idealize.SL.Sem Cert.KernelIdeal Cert.KernelIdeal.Gen
open Cert.Array Cert.Rows Cert.TopFive

variable (m : (ℓ : Loc nD τ sig) → Buf (Elt Ideal) ℓ)

/-- The last line reads the array of the blocks and stores it in the other shape. -/
theorem tail_eq (c : Dev nD) :
    Pipeline.afterTail₀ cfgs (dats m) 0 (V0 m) [hostOps1] c main_v2
      = shapeCast S1x16x8x64x64 ((dats m 0 c).arrAt 1 cfg0.N : S8x16x4096.Idx → EReal) shapeCasts_S8x16x4096_S1x16x8x64x64 := by
  have ha := Pipeline.withArrays_arr spec0 launch0.win.arr_inj c (V0 m c) (fun w => (dats m 0 c).arrAt w cfg0.N) 1
  unfold Pipeline.afterTail₀
  simp only [hostOps1, List.flatten_cons, List.flatten_nil, List.append_nil]
  after_results_simp
  exact congrArg (fun x : S8x16x4096.Idx → EReal => shapeCast S1x16x8x64x64 x shapeCasts_S8x16x4096_S1x16x8x64x64) ha

/-- The kernel runs, stores that result and leaves its argument as it was. -/
theorem run (ρ : Dev nD → PrngReg) :
    θ_run defs (onTc (τ := τ) (main (F := Ideal))) ⟨m, fun _ => 0, ρ⟩ (fun r => ∀ c : Dev nD,
      r.2.mem ((c.tc : Thread nD τ).loc main_v2)
        = shapeCast S1x16x8x64x64 ((dats m 0 c).arrAt 1 cfg0.N : S8x16x4096.Idx → EReal) shapeCasts_S8x16x4096_S1x16x8x64x64
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c)⟩)
    (run_main m ρ)

/-- The averages of the whole feature map, in its shape. -/
def averages (X : Vec Ideal S1x16x8x64x64 .f32) : S1x16x8x64x64.Idx → EReal :=
  shapeCast S1x16x8x64x64 (fun i : S8x16x4096.Idx => average X (i 0) (i 1) (i 2)) shapeCasts_S8x16x4096_S1x16x8x64x64

/-- An array that holds the averages of the slices is them, in the other shape too. -/
theorem averages_eq (X : Vec Ideal S1x16x8x64x64 .f32) (f : S8x16x4096.Idx → EReal)
    (h : ∀ d c i, f (ix3 d c i) = average X d c i) :
    shapeCast S1x16x8x64x64 f shapeCasts_S8x16x4096_S1x16x8x64x64 = averages X := by
  unfold averages
  refine congrArg (fun x : S8x16x4096.Idx → EReal => shapeCast S1x16x8x64x64 x shapeCasts_S8x16x4096_S1x16x8x64x64) (funext fun q => ?_)
  rw [ValueIdx.eq_ix3 q]
  exact h (q 0) (q 1) (q 2)

/-- The kernel's result at a position without ties is the average there. -/
theorem result_apply (c : Dev nD) (i : S1x16x8x64x64.Idx)
    (h : NoTies (m ((c.tc : Thread nD τ).loc main_arg0)) (Shape.reshapeEquiv shapeCasts_S8x16x4096_S1x16x8x64x64 i 0)
      (Shape.reshapeEquiv shapeCasts_S8x16x4096_S1x16x8x64x64 i 2)) :
    shapeCast S1x16x8x64x64 ((dats m 0 c).arrAt 1 cfg0.N : S8x16x4096.Idx → EReal) shapeCasts_S8x16x4096_S1x16x8x64x64 i
      = averages (m ((c.tc : Thread nD τ).loc main_arg0)) i := by
  unfold averages shapeCast
  generalize Shape.reshapeEquiv shapeCasts_S8x16x4096_S1x16x8x64x64 i = q at h ⊢
  exact (congrArg ((dats m 0 c).arrAt 1 cfg0.N : S8x16x4096.Idx → EReal) (ValueIdx.eq_ix3 q)).trans
    (array_apply m c (q 0) (q 1) (q 2) h)

end Cert.Result

end
-- ==== Proof.Sorted.lean ====
/- What the reference's and the mask's selection of the greatest entries of a row reads, entry by entry. -/
module

public import proofs.«01_k».proof.Proof.TopFive
public import Idealize.ShloMosaic.Lib.Pointwise

@[expose] public section

set_option maxRecDepth 16384

noncomputable section

namespace Cert.Sorted

open Idealize.ShloMosaic Cert.TopFive

/-- Moving an entry of a cube along its last axis changes the last coordinate. -/
theorem along_last {a b n : ℕ} (d : Fin a) (i : Fin b) (k l : Fin n) :
    (ix3 d i k : (⟨3, ![a, b, n]⟩ : Shape).Idx).along 2 l = ix3 d i l := by
  funext e
  match e with
  | ⟨0, _⟩ => rfl
  | ⟨1, _⟩ => rfl
  | ⟨2, _⟩ => rfl

/-- The comparator of the selection says "greater". -/
theorem greater (a b : EReal) :
    (FloatOps.cmpfTotal (F := Ideal) (φ := .f32) .gt a b == 1#1) = decide (b < a) := by
  show (BitVec.ofBool (decide (b < a)) == 1#1) = decide (b < a)
  by_cases h : b < a <;> simp [h]

variable {K : ℕ} (x : FVec Ideal (⟨3, ![8, 4096, 4096]⟩ : Shape) .f32)
  (h : (⟨3, ![8, 4096, 4096]⟩ : Shape).Slices (fun _ => 0) ⟨3, ![8, 4096, K]⟩)

/-- The position in the sorted row that entry `k` of the selection is cut from: the same one. -/
theorem slot (hK : K ≤ 4096) (d : Fin 8) (i : Fin 4096) (k : Fin K) :
    (fun a : Fin 3 => (⟨0 + ((ix3 d i k : (⟨3, ![8, 4096, K]⟩ : Shape).Idx) (a.cast h.1.symm)).val,
      Nat.lt_of_lt_of_le (Nat.add_lt_add_left (Fin.isLt _) _) (h.2 a)⟩ : Fin ((⟨3, ![8, 4096, 4096]⟩ : Shape).size a)))
      = (ix3 d i ⟨k.val, lt_of_lt_of_le k.isLt hK⟩ : (⟨3, ![8, 4096, 4096]⟩ : Shape).Idx) := by
  funext a
  match a with
  | ⟨0, _⟩ => exact Fin.ext (Nat.zero_add _)
  | ⟨1, _⟩ => exact Fin.ext (Nat.zero_add _)
  | ⟨2, _⟩ => exact Fin.ext (Nat.zero_add _)

/-- The order the selection sorts a row by is the order of its entries, greatest first. -/
theorem order (d : Fin 8) (i : Fin 4096) (k : Fin 4096) :
    sortedFrom (fun l l' : Fin 4096 =>
        FloatOps.cmpfTotal (F := Ideal) (φ := .f32) .gt
          (x ((ix3 d i k : (⟨3, ![8, 4096, 4096]⟩ : Shape).Idx).along 2 l))
          (x ((ix3 d i k : (⟨3, ![8, 4096, 4096]⟩ : Shape).Idx).along 2 l')) == 1#1) k
      = place (fun j => x (ix3 d i j)) k := by
  unfold place
  refine congrFun (congrArg sortedFrom (funext fun l => funext fun l' => ?_)) k
  rw [greater, along_last, along_last]

/-- A row sorted greatest first holds at position `k` its `k`-th greatest entry. -/
theorem sorted_value (y : IVec (⟨3, ![8, 4096, 4096]⟩ : Shape) 32) (d : Fin 8) (i : Fin 4096) (k : Fin 4096) :
    (Host.sort2 (⟨3, ![8, 4096, 4096]⟩ : Shape) 2
        (fun l r => FloatOps.cmpfTotal (F := Ideal) (φ := .f32) .gt l.1 r.1) x y).1 (ix3 d i k)
      = x (ix3 d i (place (fun j => x (ix3 d i j)) k)) := by
  unfold Host.sort2
  rw [dif_pos (show 2 < (⟨3, ![8, 4096, 4096]⟩ : Shape).rank by decide)]
  dsimp only
  exact congrArg x ((congrArg _ (order x d i k)).trans (along_last d i k _))

/-- A second array sorted along with a row holds at position `k` its entry at the row's `k`-th greatest. -/
theorem sorted_companion (y : IVec (⟨3, ![8, 4096, 4096]⟩ : Shape) 32) (d : Fin 8) (i : Fin 4096) (k : Fin 4096) :
    (Host.sort2 (⟨3, ![8, 4096, 4096]⟩ : Shape) 2
        (fun l r => FloatOps.cmpfTotal (F := Ideal) (φ := .f32) .gt l.1 r.1) x y).2 (ix3 d i k)
      = y (ix3 d i (place (fun j => x (ix3 d i j)) k)) := by
  unfold Host.sort2
  rw [dif_pos (show 2 < (⟨3, ![8, 4096, 4096]⟩ : Shape).rank by decide)]
  dsimp only
  exact congrArg y ((congrArg _ (order x d i k)).trans (along_last d i k _))

/-- The selection of `K` entries cut from the front of a sorted row keeps the entries in place. -/
theorem cut_apply {α : Type} (z : (⟨3, ![8, 4096, 4096]⟩ : Shape).Idx → α) (hK : K ≤ 4096) (d : Fin 8) (i : Fin 4096)
    (k : Fin K) :
    extractStridedSlice (⟨3, ![8, 4096, K]⟩ : Shape) (fun _ => 0) z h (ix3 d i k)
      = z (ix3 d i ⟨k.val, lt_of_lt_of_le k.isLt hK⟩) :=
  congrArg z (slot h hK d i k)

/-- The `k`-th greatest entry of a row. -/
theorem value_apply (hK : K ≤ 4096) (d : Fin 8) (i : Fin 4096) (k : Fin K) :
    (Host.topK (⟨3, ![8, 4096, K]⟩ : Shape) 2 (FloatOps.cmpfTotal (F := Ideal) (φ := .f32) .gt) x h).1 (ix3 d i k)
      = x (ix3 d i (place (fun j => x (ix3 d i j)) ⟨k.val, lt_of_lt_of_le k.isLt hK⟩)) := by
  unfold Host.topK
  dsimp only
  rw [cut_apply h _ hK, sorted_value]

/-- The position of the `k`-th greatest entry of a row, as an index word. -/
theorem position_apply (hK : K ≤ 4096) (d : Fin 8) (i : Fin 4096) (k : Fin K) :
    (Host.topK (⟨3, ![8, 4096, K]⟩ : Shape) 2 (FloatOps.cmpfTotal (F := Ideal) (φ := .f32) .gt) x h).2 (ix3 d i k)
      = BitVec.ofNat 32 (place (fun j => x (ix3 d i j)) ⟨k.val, lt_of_lt_of_le k.isLt hK⟩).val := by
  unfold Host.topK
  dsimp only
  rw [cut_apply h _ hK, sorted_companion, dif_pos (show 2 < (⟨3, ![8, 4096, 4096]⟩ : Shape).rank by decide)]
  rfl

end Cert.Sorted

end
-- ==== Proof.Taken.lean ====
/- What the reference's gather along the pixel axis reads. -/
module

public import Idealize.ShloMosaic.Lib.Pointwise

@[expose] public section

set_option maxRecDepth 16384

noncomputable section

namespace Cert.Taken

open Idealize.ShloMosaic

/-- The start of the slice a result reads on an axis the start index map names, cut off at the last place it fits. -/
abbrev takenDims (wf : GatherDims.WF (⟨3, ![8, 16, 4096]⟩ : Shape) ⟨4, ![8, 4096, 5, 1]⟩ ⟨4, ![8, 16, 4096, 5]⟩
      [1] [2] [0] [2] [0] 3 ![1, 16, 1]) :
    GatherDims (⟨3, ![8, 16, 4096]⟩ : Shape) ⟨4, ![8, 4096, 5, 1]⟩ ⟨4, ![8, 16, 4096, 5]⟩ where
  offsetDims := [1]
  collapsedSliceDims := [2]
  operandBatchingDims := [0]
  startIndicesBatchingDims := [0]
  startIndexMap := [2]
  indexVectorDim := 3
  sliceSizes := ![1, 16, 1]
  wf := wf

/-- Result `(d, c, i, k)` of the gather reads the array at plane `d`, channel `c` and the pixel whose number its index
    word holds. -/
theorem taken_apply {α : Type}
    (wf : GatherDims.WF (⟨3, ![8, 16, 4096]⟩ : Shape) ⟨4, ![8, 4096, 5, 1]⟩ ⟨4, ![8, 16, 4096, 5]⟩
      [1] [2] [0] [2] [0] 3 ![1, 16, 1])
    (x : (⟨3, ![8, 16, 4096]⟩ : Shape).Idx → α) (idx : IVec (⟨4, ![8, 4096, 5, 1]⟩ : Shape) 32)
    (d : Fin 8) (c : Fin 16) (i : Fin 4096) (k : Fin 5) (p : Fin 4096)
    (hp : idx (ix4 d i k (0 : Fin 1)) = BitVec.ofNat 32 p.val) :
    Host.gather (takenDims wf) x idx (ix4 d c i k) = x (ix3 d c p) := by
  unfold Host.gather
  refine congrArg x (funext fun a => Fin.ext ?_)
  match a with
  | ⟨0, _⟩ =>
    show (takenDims wf).start (ix4 d c i k) idx 0 + (takenDims wf).batchCoord (ix4 d c i k) 0
      + (takenDims wf).offCoord (ix4 d c i k) 0 = d.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show (takenDims wf).start (ix4 d c i k) idx 1 + (takenDims wf).batchCoord (ix4 d c i k) 1
      + (takenDims wf).offCoord (ix4 d c i k) 1 = c.val
    have hs : (takenDims wf).start (ix4 d c i k) idx 1 = 0 := by
      unfold GatherDims.start
      rw [dif_neg (fun h => absurd (List.mem_singleton.mp h) (by decide))]
    rw [hs, GatherDims.batchCoord_eq_zero _ _ _ (fun h => absurd (List.mem_singleton.mp h) (by decide))]
    simp only [Nat.zero_add]
    unfold GatherDims.offCoord
    rw [dif_pos ((GatherDims.mem_sKept _ _).mpr ⟨fun h => absurd (List.mem_singleton.mp h) (by decide),
      fun h => absurd (List.mem_singleton.mp h) (by decide)⟩)]
    rfl
  | ⟨2, _⟩ =>
    show (takenDims wf).start (ix4 d c i k) idx 2 + (takenDims wf).batchCoord (ix4 d c i k) 2
      + (takenDims wf).offCoord (ix4 d c i k) 2 = p.val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (takenDims wf).startIndexMap from List.mem_singleton.mpr rfl)]
    have hsi : (takenDims wf).siIdx (ix4 d c i k) ⟨List.idxOf (2 : Fin 3) (takenDims wf).startIndexMap,
        List.idxOf_lt_length_iff.2 (List.mem_singleton.mpr rfl)⟩ = ix4 d i k (0 : Fin 1) := by
      funext b; refine Fin.ext ?_
      match b with
      | ⟨0, _⟩ => rfl
      | ⟨1, _⟩ => rfl
      | ⟨2, _⟩ => rfl
      | ⟨3, _⟩ => rfl
    rw [hsi, hp]
    have hv : (BitVec.ofNat 32 p.val).toInt.toNat = p.val := by
      rw [BitVec.toInt_eq_toNat_of_lt (by rw [BitVec.toNat_ofNat]; omega), BitVec.toNat_ofNat]
      omega
    rw [hv]
    show min p.val (4096 - 1) = p.val
    omega

end Cert.Taken

end
-- ==== Proof.Reference.lean ====
/- What the reference computes: the average of a position's five most similar positions by their divided weights. -/
module

public import proofs.«01_k».proof.Proof.Rows
public import proofs.«01_k».proof.Proof.Sorted
public import proofs.«01_k».proof.Proof.Taken
public import proofs.«01_k».proof.Proof.Gen.ReferenceIdeal.Run
public import Idealize.ShloMosaic.Lib.ReduceAll
public import Idealize.ShloMosaic.Lib.Tactic

@[expose] public section

set_option maxRecDepth 16384

noncomputable section

namespace Cert.Reference

open Idealize.ShloMosaic Idealize.ShloMosaic.TcCoe Idealize.SL.Sem Cert.ReferenceIdeal Cert.ReferenceIdeal.Gen
open Cert.ReferenceIdeal.Value Cert.Rows Cert.TopFive Cert.Weights

/-- A position's number as a signed word. -/
theorem toInt_small {p : ℕ} (hp : p < 4096) : (BitVec.ofNat 32 p).toInt = (p : ℤ) := by
  rw [BitVec.toInt_ofNat', Int.bmod_eq_of_le] <;> omega

/-- A position's number is not negative. -/
theorem not_negative {p : ℕ} (hp : p < 4096) : IntOp.cmpi .slt (BitVec.ofNat 32 p) 0#32 = 0#1 := by
  have h : (BitVec.ofNat 32 p).slt 0#32 = false := by
    rw [BitVec.slt_eq_decide, toInt_small hp]
    exact decide_eq_false (by simp)
  show BitVec.ofBool ((BitVec.ofNat 32 p).slt 0#32) = 0#1
  rw [h]; rfl

/-- A position's number lies between zero and the last position. -/
theorem in_range {p : ℕ} (hp : p < 4096) :
    IntOp.andi (IntOp.cmpi .sge (BitVec.ofNat 32 p) 0#32) (IntOp.cmpi .sle (BitVec.ofNat 32 p) 4095#32) = 1#1 := by
  have h1 : (0#32).sle (BitVec.ofNat 32 p) = true := by
    rw [BitVec.sle_eq_decide, toInt_small hp]
    exact decide_eq_true (by simp)
  have h2 : (BitVec.ofNat 32 p).sle 4095#32 = true := by
    rw [BitVec.sle_eq_decide, toInt_small hp]
    exact decide_eq_true (by show (p : ℤ) ≤ 4095; omega)
  show BitVec.ofBool ((0#32).sle (BitVec.ofNat 32 p)) &&& BitVec.ofBool ((BitVec.ofNat 32 p).sle 4095#32) = 1#1
  rw [h1, h2]; rfl

/-- The distance of two positions as the reference takes it from their words. -/
theorem toInt_distance {p i : ℕ} (hp : p < 4096) (hi : i < 4096) :
    (IntOp.absi (IntOp.subi (BitVec.ofNat 32 p) (BitVec.ofNat 32 i))).toInt = |(p : ℤ) - (i : ℤ)| := by
  have hs : (BitVec.ofNat 32 p - BitVec.ofNat 32 i).toInt = (p : ℤ) - (i : ℤ) := by
    rw [BitVec.toInt_sub, toInt_small hp, toInt_small hi, Int.bmod_eq_of_le] <;> omega
  show (if (BitVec.ofNat 32 p - BitVec.ofNat 32 i).msb then -(BitVec.ofNat 32 p - BitVec.ofNat 32 i)
    else BitVec.ofNat 32 p - BitVec.ofNat 32 i).toInt = _
  rw [BitVec.msb_eq_toInt, hs]
  by_cases h : (p : ℤ) - (i : ℤ) < 0
  · rw [if_pos (decide_eq_true h), BitVec.toInt_neg, hs, abs_of_neg h, Int.bmod_eq_of_le] <;> omega
  · rw [if_neg (by simpa using h), hs, abs_of_nonneg (not_lt.mp h)]

/-- The slices of the feature map, each as channels by positions. -/
def slices (X : FVec Ideal S1x16x8x64x64 .f32) : FVec Ideal S8x16x4096 .f32 :=
  shapeCast S8x16x4096 (transpose S8x1x16x64x64 [2, 0, 1, 3, 4] X transposes_S1x16x8x64x64_S8x1x16x64x64_2_0_1_3_4)
    shapeCasts_S8x1x16x64x64_S8x16x4096

theorem slices_apply (X : FVec Ideal S1x16x8x64x64 .f32) (d : Fin 8) (c : Fin 16) (j : Fin 4096) :
    slices X (ix3 d c j) = row X d c j := by
  unfold slices row
  pointwise

/-- The similarities of all pairs of positions of each slice. -/
def products (f : FVec Ideal S8x16x4096 .f32) : FVec Ideal S8x4096x4096 .f32 :=
  Host.dotGeneral dot_S8x16x4096_S8x16x4096_S8x4096x4096_1_1_2_2_0_0 none f f

theorem products_apply (f : FVec Ideal S8x16x4096 .f32) (d : Fin 8) (i j : Fin 4096) :
    products f (ix3 d i j) = ∑ c : Fin 16, f (ix3 d c i) * f (ix3 d c j) := by
  unfold products
  pointwise

/-- The index words of the five chosen positions. -/
def chosen (s : FVec Ideal S8x4096x4096 .f32) : IVec S8x4096x5 32 :=
  (Host.topK S8x4096x5 2 (FloatOps.cmpfTotal .gt) s sliceFits_S8x4096x4096_S8x4096x5).2

theorem chosen_apply (X : FVec Ideal S1x16x8x64x64 .f32) (d : Fin 8) (i : Fin 4096) (k : Fin 5) :
    chosen (products (slices X)) (ix3 d i k) = BitVec.ofNat 32 (lead X d i k).val := by
  unfold chosen lead
  have hs : (fun j => products (slices X) (ix3 d i j)) = sim X d i := by
    funext j
    rw [products_apply]
    unfold sim
    simp only [slices_apply]
  rw [← hs]
  exact Sorted.position_apply _ _ (by omega) d i k

/-- The index words of the gather: a negative one counted from the end. -/
def words (q : IVec S8x4096x5 32) : IVec S8x4096x5x1 32 :=
  shapeCast S8x4096x5x1 (select (cmpi .slt (broadcastInDim S8x1x4096x5 ![0, 2, 3] bcast_S8x4096x5_S8x1x4096x5_0_2_3 q) (broadcastInDim S8x1x4096x5 ![] bcast_S_S8x1x4096x5 (constantI S_ 32 0#32))) (addi (broadcastInDim S8x1x4096x5 ![0, 2, 3] bcast_S8x4096x5_S8x1x4096x5_0_2_3 q) (broadcastInDim S8x1x4096x5 ![] bcast_S_S8x1x4096x5 (constantI S_ 32 4096#32))) (broadcastInDim S8x1x4096x5 ![0, 2, 3] bcast_S8x4096x5_S8x1x4096x5_0_2_3 q)) shapeCasts_S8x1x4096x5_S8x4096x5x1

theorem words_apply (q : IVec S8x4096x5 32) (d : Fin 8) (i : Fin 4096) (k : Fin 5) (p : Fin 4096)
    (hp : q (ix3 d i k) = BitVec.ofNat 32 p.val) : words q (ix4 d i k 0) = BitVec.ofNat 32 p.val := by
  unfold words
  pointwise
  rw [hp, not_negative p.isLt, ValueIdx.select_zero]

/-- The bits that say which index words are in range. -/
def inside (w : IVec S8x4096x5x1 32) : IVec S8x4096x5 1 :=
  Host.reduce IntOp.andi (andi (cmpi .sge w (broadcastInDim S8x4096x5x1 ![] bcast_S_S8x4096x5x1 (constantI S_ 32 0#32))) (cmpi .sle w (broadcastInDim S8x4096x5x1 ![0, 1, 2, 3] bcast_S1x1x1x1_S8x4096x5x1_0_1_2_3 (broadcastInDim S1x1x1x1 ![3] bcast_S1_S1x1x1x1_3 (constantI S1 32 4095#32))))) (constantI S_ 1 1#1) reducesTo_S8x4096x5x1_S8x4096x5_d3 h_S_

/-- Every index word is in range when all are numbers of positions. -/
theorem inside_apply (w : IVec S8x4096x5x1 32)
    (hw : ∀ (d : Fin 8) (i : Fin 4096) (k : Fin 5), ∃ p : Fin 4096, w (ix4 d i k 0) = BitVec.ofNat 32 p.val)
    (d : Fin 8) (i : Fin 4096) (k : Fin 5) : inside w (ix3 d i k) = 1#1 := by
  unfold inside
  refine Host.reduce_andi_one _ _ _ _ _ rfl fun z => ?_
  have hz : z = ix4 (z 0) (z 1) (z 2) 0 := by
    rw [ValueIdx.eq_ix4 z]
    exact congrArg (ix4 (z 0) (z 1) (z 2)) (Subsingleton.elim (α := Fin 1) _ _)
  obtain ⟨p, hp⟩ := hw (z 0) (z 1) (z 2)
  rw [hz]
  pointwise
  rw [hp, in_range p.isLt]

/-- One over the distances enlarged by the constant. -/
def inverse (q : IVec S8x4096x5 32) : FVec Ideal S8x4096x5 .f32 :=
  Host.divf (broadcastInDim S8x4096x5 ![] bcast_S_S8x4096x5 (constant S_ .f32 0x3F800000#32)) (addf (sitofp .f32 (absi (subi q (broadcastInDim S8x4096x5 ![0, 1, 2] bcast_S1x4096x1_S8x4096x5_0_1_2 (shapeCast S1x4096x1 (iotaInDim S4096 32 0) shapeCasts_S4096_S1x4096x1))))) (broadcastInDim S8x4096x5 ![] bcast_S_S8x4096x5 (constant S_ .f32 0x3727C5AC#32)))

theorem inverse_apply (q : IVec S8x4096x5 32) (d : Fin 8) (i : Fin 4096) (k : Fin 5) (p : Fin 4096)
    (hp : q (ix3 d i k) = BitVec.ofNat 32 p.val) : inverse q (ix3 d i k) = ((weight i.val p.val : ℝ) : EReal) := by
  unfold inverse
  pointwise
  rw [hp, ofBits_eps]
  refine div_weight i.val p.val _ ?_
  show (((IntOp.absi (IntOp.subi (BitVec.ofNat 32 p.val) (BitVec.ofNat 32 i.val))).toInt : ℤ) : ℝ) = _
  rw [toInt_distance p.isLt i.isLt]
  push_cast
  rfl

/-- The weights divided by their sum. -/
def divided (v : FVec Ideal S8x4096x5 .f32) : FVec Ideal S8x4096x5 .f32 :=
  Host.divf v (broadcastInDim S8x4096x5 ![0, 1, 2] bcast_S8x4096x1_S8x4096x5_0_1_2 (broadcastInDim S8x4096x1 ![0, 1] bcast_S8x4096_S8x4096x1_0_1 (Host.reduceAdd v (constant S_ .f32 0x00000000#32) reducesTo_S8x4096x5_S8x4096_d2 h_S_)))

theorem divided_apply (v : FVec Ideal S8x4096x5 .f32) (d : Fin 8) (i : Fin 4096) (k : Fin 5) :
    divided v (ix3 d i k) = Ideal.div (v (ix3 d i k)) (∑ l : Fin 5, v (ix3 d i l)) := by
  unfold divided
  pointwise

/-- The features of the chosen positions. -/
def taken (f : FVec Ideal S8x16x4096 .f32) (w : IVec S8x4096x5x1 32) : FVec Ideal S8x16x4096x5 .f32 :=
  Host.gather gather_S8x16x4096_S8x4096x5x1_S8x16x4096x5_1_2_0_0_2_3_1161 (shapeCast S8x16x4096 (broadcastInDim S8x16x4096x1 ![0, 1, 2] bcast_S8x16x4096_S8x16x4096x1_0_1_2 f) shapeCasts_S8x16x4096x1_S8x16x4096) w

theorem taken_apply (f : FVec Ideal S8x16x4096 .f32) (w : IVec S8x4096x5x1 32) (d : Fin 8) (c : Fin 16) (i : Fin 4096)
    (k : Fin 5) (p : Fin 4096) (hp : w (ix4 d i k 0) = BitVec.ofNat 32 p.val) :
    taken f w (ix4 d c i k) = f (ix3 d c p) := by
  refine (Taken.taken_apply gather_S8x16x4096_S8x4096x5x1_S8x16x4096x5_1_2_0_0_2_3_1161_wf _ w d c i k p hp).trans ?_
  pointwise

/-- The weighted sum of the chosen features, the ones out of range replaced. -/
def summed (b : IVec S8x4096x5 1) (g : FVec Ideal S8x16x4096x5 .f32) (u : FVec Ideal S8x4096x5 .f32) : FVec Ideal S8x16x4096 .f32 :=
  Host.reduceAdd (mulf (select (broadcastInDim S8x16x4096x5 ![0, 2, 3] bcast_S8x4096x5_S8x16x4096x5_0_2_3 b) g (broadcastInDim S8x16x4096x5 ![] bcast_S_S8x16x4096x5 (constant S_ .f32 0x7FC00000#32))) (broadcastInDim S8x16x4096x5 ![0, 1, 2, 3] bcast_S8x1x4096x5_S8x16x4096x5_0_1_2_3 (broadcastInDim S8x1x4096x5 ![0, 2, 3] bcast_S8x4096x5_S8x1x4096x5_0_2_3 u))) (constant S_ .f32 0x00000000#32) reducesTo_S8x16x4096x5_S8x16x4096_d3 h_S_

theorem summed_apply (b : IVec S8x4096x5 1) (g : FVec Ideal S8x16x4096x5 .f32) (u : FVec Ideal S8x4096x5 .f32)
    (d : Fin 8) (c : Fin 16) (i : Fin 4096) (hb : ∀ k : Fin 5, b (ix3 d i k) = 1#1) :
    summed b g u (ix3 d c i) = ∑ k : Fin 5, g (ix4 d c i k) * u (ix3 d i k) := by
  unfold summed
  pointwise
  simp only [hb, ValueIdx.select_one]

/-- The reference's averages of all slices, in these steps. -/
def averages (X : FVec Ideal S1x16x8x64x64 .f32) : FVec Ideal S8x16x4096 .f32 :=
  summed (inside (words (chosen (products (slices X)))))
    (taken (slices X) (words (chosen (products (slices X)))))
    (divided (inverse (chosen (products (slices X)))))

theorem averages_apply (X : FVec Ideal S1x16x8x64x64 .f32) (d : Fin 8) (c : Fin 16) (i : Fin 4096) :
    averages X (ix3 d c i) = average X d c i := by
  have hq := chosen_apply X
  have hw := fun d i k => words_apply (chosen (products (slices X))) d i k _ (hq d i k)
  refine (summed_apply _ _ _ d c i fun k => inside_apply _ (fun d i k => ⟨_, hw d i k⟩) d i k).trans ?_
  unfold average
  refine Finset.sum_congr rfl fun k _ => ?_
  rw [taken_apply _ _ d c i k _ (hw d i k), slices_apply, divided_apply]
  simp only [inverse_apply _ d i _ _ (hq d i _)]

/-- The reference's result is these averages in the shape of the feature map. -/
theorem result_eq (m : (ℓ : Loc nD τ sig) → Buf (Elt Ideal) ℓ) (c : Dev nD) :
    res_out0 m c = shapeCast S1x16x8x64x64 (averages (m ((c.tc : Thread nD τ).loc main_arg0))) shapeCasts_S8x16x4096_S1x16x8x64x64 := by
  unfold res_out0 res_main_v24
  rfl

end Cert.Reference

end
-- ==== Proof.Mask.lean ====
/- What the mask says where it is set: the six greatest similarities of the position are different numbers. -/
module

public import proofs.«01_k».proof.Proof.Rows
public import proofs.«01_k».proof.Proof.Sorted
public import proofs.«01_k».proof.Proof.Gen.On_no_ties
public import Idealize.ShloMosaic.Lib.ReduceAll
public import Idealize.ShloMosaic.Lib.Tactic

@[expose] public section

set_option maxRecDepth 16384

noncomputable section

namespace Cert.Mask

open Idealize.ShloMosaic Cert.On_no_ties Cert.On_no_ties.Gen Cert.Rows Cert.TopFive

/-- The similarities of all pairs of positions, as the mask takes them. -/
def products (X : FVec Ideal S1x16x8x64x64 .f32) : FVec Ideal S8x4096x4096 .f32 :=
  Host.dotGeneral dot_S8x16x4096_S8x16x4096_S8x4096x4096_1_1_2_2_0_0 none (shapeCast S8x16x4096 (transpose S8x1x16x64x64 [2, 0, 1, 3, 4] X transposes_S1x16x8x64x64_S8x1x16x64x64_2_0_1_3_4) shapeCasts_S8x1x16x64x64_S8x16x4096) (shapeCast S8x16x4096 (transpose S8x1x16x64x64 [2, 0, 1, 3, 4] X transposes_S1x16x8x64x64_S8x1x16x64x64_2_0_1_3_4) shapeCasts_S8x1x16x64x64_S8x16x4096)

theorem slices_apply (X : FVec Ideal S1x16x8x64x64 .f32) (d : Fin 8) (c : Fin 16) (j : Fin 4096) :
    shapeCast S8x16x4096 (transpose S8x1x16x64x64 [2, 0, 1, 3, 4] X transposes_S1x16x8x64x64_S8x1x16x64x64_2_0_1_3_4)
      shapeCasts_S8x1x16x64x64_S8x16x4096 (ix3 d c j) = row X d c j := by
  unfold row
  pointwise

theorem products_apply (X : FVec Ideal S1x16x8x64x64 .f32) (d : Fin 8) (i j : Fin 4096) :
    products X (ix3 d i j) = sim X d i j := by
  have h : ∀ f : FVec Ideal S8x16x4096 .f32,
      Host.dotGeneral dot_S8x16x4096_S8x16x4096_S8x4096x4096_1_1_2_2_0_0 none f f (ix3 d i j)
        = ∑ c : Fin 16, f (ix3 d c i) * f (ix3 d c j) := by
    intro f
    pointwise
  refine (h _).trans ?_
  exact Finset.sum_congr rfl fun c _ => congrArg₂ (· * ·) (slices_apply X d c i) (slices_apply X d c j)

/-- The six greatest similarities of every position. -/
def greatest (s : FVec Ideal S8x4096x4096 .f32) : FVec Ideal S8x4096x6 .f32 :=
  (Host.topK S8x4096x6 2 (FloatOps.cmpfTotal .gt) s sliceFits_S8x4096x4096_S8x4096x6).1

theorem greatest_apply (X : FVec Ideal S1x16x8x64x64 .f32) (d : Fin 8) (i : Fin 4096) (k : Fin 6) :
    greatest (products X) (ix3 d i k) = sim X d i (place (sim X d i) ⟨k.val, by omega⟩) := by
  unfold greatest
  have hs : (fun j => products X (ix3 d i j)) = sim X d i := funext fun j => products_apply X d i j
  refine (Sorted.value_apply _ _ (by omega) d i k).trans ?_
  rw [hs, products_apply]

/-- Each of the first five compared with the next. -/
def compared (v : FVec Ideal S8x4096x6 .f32) : IVec S8x4096x5 1 :=
  cmpf .ogt (extractStridedSlice S8x4096x5 ![0, 0, 0] v slices_S8x4096x6_S8x4096x5_0_0_0)
    (extractStridedSlice S8x4096x5 ![0, 0, 1] v slices_S8x4096x6_S8x4096x5_0_0_1)

/-- The comparison "greater" of extended reals as a bit. -/
theorem exceeds (a b : EReal) : FloatOps.cmpf (F := Ideal) (φ := .f32) .ogt a b = BitVec.ofBool (decide (b < a)) := rfl

theorem compared_apply (v : FVec Ideal S8x4096x6 .f32) (d : Fin 8) (i : Fin 4096) (k : Fin 5)
    (h : compared v (ix3 d i k) = 1#1) :
    v (ix3 d i ⟨k.val + 1, by omega⟩) < v (ix3 d i ⟨k.val, by omega⟩) := by
  unfold compared at h
  rw [ValueIdx.cmpf_apply] at h
  have e0 : extractStridedSlice S8x4096x5 ![0, 0, 0] v slices_S8x4096x6_S8x4096x5_0_0_0 (ix3 d i k)
      = v (ix3 d i ⟨k.val, by omega⟩) := by
    pointwise
  have e1 : extractStridedSlice S8x4096x5 ![0, 0, 1] v slices_S8x4096x6_S8x4096x5_0_0_1 (ix3 d i k)
      = v (ix3 d i ⟨k.val + 1, by omega⟩) := by
    pointwise
    exact congrArg (fun q => v (ix3 d i q)) (Fin.ext (Nat.add_comm 1 k.val))
  rw [e0, e1, exceeds] at h
  by_contra hn
  rw [decide_eq_false hn] at h
  exact absurd h (by decide)

/-- The bits of a whole row of comparisons, spread over the channels. -/
def spread (b : IVec S8x4096x5 1) : IVec S8x16x4096 1 :=
  broadcastInDim S8x16x4096 ![0, 1, 2] bcast_S8x1x4096_S8x16x4096_0_1_2 (broadcastInDim S8x1x4096 ![0, 2] bcast_S8x4096_S8x1x4096_0_2 (Host.reduce IntOp.andi b (constantI S_ 1 1#1) reducesTo_S8x4096x5_S8x4096_d2 h_S_))

theorem spread_apply (b : IVec S8x4096x5 1) (d : Fin 8) (c : Fin 16) (i : Fin 4096) (h : spread b (ix3 d c i) = 1#1)
    (k : Fin 5) : b (ix3 d i k) = 1#1 := by
  have e : ∀ r : IVec S8x4096 1, broadcastInDim S8x16x4096 ![0, 1, 2] bcast_S8x1x4096_S8x16x4096_0_1_2 (broadcastInDim S8x1x4096 ![0, 2] bcast_S8x4096_S8x1x4096_0_2 r) (ix3 d c i) = r (ix2 d i) := by
    intro r
    pointwise
  unfold spread at h
  rw [e] at h
  refine Host.reduce_andi_eq_one _ _ _ _ _ h (ix3 d i k) ?_
  funext a
  apply Fin.ext
  match a with
  | ⟨0, _⟩ => rfl
  | ⟨1, _⟩ => rfl

/-- The mask, in these steps. -/
theorem fn_eq (X : FVec Ideal S1x16x8x64x64 .f32) :
    Cert.On_no_ties.fn (F := Ideal) X
      = shapeCast S1x16x8x64x64 (spread (compared (greatest (products X)))) shapeCasts_S8x16x4096_S1x16x8x64x64 := by
  unfold Cert.On_no_ties.fn
  rfl

/-- Where these bits are set the six greatest similarities are different numbers. -/
theorem no_ties (X : FVec Ideal S1x16x8x64x64 .f32) (d : Fin 8) (c : Fin 16) (i : Fin 4096)
    (h : spread (compared (greatest (products X))) (ix3 d c i) = 1#1) : NoTies X d i := by
  intro k
  have hk := compared_apply _ d i k (spread_apply _ d c i h k)
  rw [greatest_apply, greatest_apply] at hk
  exact hk

/-- The mask at a position of the feature map, set: the position of the slices it stands for has no ties. -/
theorem fn_no_ties (X : FVec Ideal S1x16x8x64x64 .f32) (i : S1x16x8x64x64.Idx)
    (h : Cert.On_no_ties.fn (F := Ideal) X i = 1#1) :
    NoTies X (Shape.reshapeEquiv shapeCasts_S8x16x4096_S1x16x8x64x64 i 0) (Shape.reshapeEquiv shapeCasts_S8x16x4096_S1x16x8x64x64 i 2) := by
  rw [fn_eq] at h
  unfold shapeCast at h
  generalize Shape.reshapeEquiv shapeCasts_S8x16x4096_S1x16x8x64x64 i = q at h ⊢
  rw [ValueIdx.eq_ix3 q] at h
  exact no_ties X (q 0) (q 1) (q 2) h

end Cert.Mask

end
-- ==== Proof.lean ====
/- The certificate's claims: the frames of the three programs, and that the kernel's result is the reference's wherever the
   mask is set. -/
module

public import proofs.«01_k».proof.Proof.Gen.ReferenceIdeal.Run
public import proofs.«01_k».proof.Defs
public import proofs.«01_k».proof.Proof.Result
public import proofs.«01_k».proof.Proof.Reference
public import proofs.«01_k».proof.Proof.Mask
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_no_ties
public import Idealize.ShloMosaic.Adequacy
public import Idealize.ShloMosaic.Init

@[expose] public section

noncomputable section

namespace Cert.Proof

open Idealize.ShloMosaic Idealize.SL.Sem Cert.Kernel

/-- The reference runs and leaves its argument and every counter as they were. -/
theorem frame_reference : @Cert.quiescent_ReferenceIdeal Cert.ReferenceIdeal.Gen.facts := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Where the mask is set the kernel's result and the reference's are the same average. -/
theorem equal : @Cert.algebraic_KernelIdeal_ReferenceIdeal_on_no_ties Cert.KernelIdeal.Gen.facts Cert.ReferenceIdeal.Gen.facts
    Cert.On_no_ties.Gen.facts := by
  intro m ρ m' ρ' _ hm
  refine ⟨fun c => Result.averages (m ((c.tc : Thread Cert.KernelIdeal.nD Cert.KernelIdeal.τ).loc Cert.KernelIdeal.main_arg0)), ?_, ?_⟩
  · refine (θ_run Cert.KernelIdeal.defs _ _).mono (fun r h c => ⟨fun i hi => ?_, (h c).2⟩) (Result.run m ρ)
    rw [(h c).1]
    exact Result.result_apply m c i (Mask.fn_no_ties _ i hi)
  · refine (θ_run Cert.ReferenceIdeal.defs _ _).mono (fun r h c => ⟨fun i _ => ?_, (h c).2⟩)
      (Cert.ReferenceIdeal.Value.run (F := Ideal) m' ρ')
    rw [(h c).1]
    refine (congrFun (Reference.result_eq m' c) i).trans ?_
    rw [hm c]
    exact congrFun (Result.averages_eq _ _ (Reference.averages_apply _)) i

/-- Everything the certificate claims. -/
theorem claim : Cert.Claim := ⟨Cert.Kernel.Gen.facts, Cert.KernelIdeal.Gen.facts, Cert.ReferenceIdeal.Gen.facts, Cert.On_no_ties.Gen.facts,
  fun m ρ _ => Cert.Kernel.Gen.frame m ρ, fun m ρ _ => Cert.KernelIdeal.Gen.frame m ρ, frame_reference, trivial, equal⟩

end Cert.Proof

end
